-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ptr_not_negative [hPre_ptr_not_negative : Cert.Pre_ptr_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_ptr_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ptr_not_negative [hPre_ptr_not_negative : Cert.Pre_ptr_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ptr_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ptr_not_negative [hKernelIdeal : Cert.KernelIdeal.Facts] [hPre_ptr_not_negative : Cert.Pre_ptr_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ptr_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ptr_not_negative [hReferenceIdeal : Cert.ReferenceIdeal.Facts] [hPre_ptr_not_negative : Cert.Pre_ptr_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ptr_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ptr_not_negative [hKernelIdeal : Cert.KernelIdeal.Facts] [hReferenceIdeal : Cert.ReferenceIdeal.Facts] [hPre_ptr_not_negative : Cert.Pre_ptr_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ptr_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ptr_not_negative : Cert.Pre_ptr_not_negative.Facts),
    quiescent_Kernel (hKernel := hKernel)
    ∧ quiescent_KernelIdeal (hKernelIdeal := hKernelIdeal)
    ∧ quiescent_KernelIdeal_pre_ptr_not_negative (hKernelIdeal := hKernelIdeal) (hPre_ptr_not_negative := hPre_ptr_not_negative)
    ∧ quiescent_ReferenceIdeal (hReferenceIdeal := hReferenceIdeal)
    ∧ quiescent_ReferenceIdeal_pre_ptr_not_negative (hReferenceIdeal := hReferenceIdeal) (hPre_ptr_not_negative := hPre_ptr_not_negative)
    ∧ preserves_Kernel_KernelIdeal
    ∧ algebraic_KernelIdeal_ReferenceIdeal_pre_ptr_not_negative (hKernelIdeal := hKernelIdeal) (hReferenceIdeal := hReferenceIdeal) (hPre_ptr_not_negative := hPre_ptr_not_negative)
-- ==== Pre_ptr_not_negative.lean ====
abbrev S1024x512 : Shape := ⟨2, ![1024, 512]⟩
abbrev S1024 : Shape := ⟨1, ![1024]⟩
abbrev S64x1024x512 : Shape := ⟨3, ![64, 1024, 512]⟩
abbrev S64x1024 : Shape := ⟨2, ![64, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1024x512 .f32) (main_arg1 : IVec S1024 32) (main_arg2 : FVec F S64x1024x512 .f32) (main_arg3 : IVec S64x1024 32) (main_arg4 : IVec S1 32) : IVec S1 1 :=
  let main_c : IVec S_ 32 := constantI S_ 32 0#32
  let main_v0 : IVec S1 32 := broadcastInDim S1 ![] bcast_S_S1 main_c
  let main_v1 : IVec S1 1 := cmpi .sge main_arg4 main_v0
  main_v1
-- ==== Kernel.lean ====
abbrev S1024x512 : Shape := ⟨2, ![1024, 512]⟩
abbrev S1024 : Shape := ⟨1, ![1024]⟩
abbrev S64x1024x512 : Shape := ⟨3, ![64, 1024, 512]⟩
abbrev S64x1024 : Shape := ⟨2, ![64, 1024]⟩
abbrev S1 : Shape := ⟨1, ![1]⟩
abbrev S8x128 : Shape := ⟨2, ![8, 128]⟩
abbrev S64x8x128 : Shape := ⟨3, ![64, 8, 128]⟩
abbrev S1024x65536 : Shape := ⟨2, ![1024, 65536]⟩
abbrev S64x1024x64 : Shape := ⟨3, ![64, 1024, 64]⟩
abbrev S1x1024x512 : Shape := ⟨3, ![1, 1024, 512]⟩
abbrev S1x8x128 : Shape := ⟨3, ![1, 8, 128]⟩
abbrev S1024x1024 : Shape := ⟨2, ![1024, 1024]⟩
abbrev S1x1024x64 : Shape := ⟨3, ![1, 1024, 64]⟩
abbrev S1024x64x16 : Shape := ⟨3, ![1024, 64, 16]⟩
abbrev S1024x64 : Shape := ⟨2, ![1024, 64]⟩
abbrev S1024x64x64 : Shape := ⟨3, ![1024, 64, 64]⟩
abbrev S1024x4096 : Shape := ⟨2, ![1024, 4096]⟩
abbrev S1024x100 : Shape := ⟨2, ![1024, 100]⟩
abbrev S_ : Shape := ⟨0, ![]⟩
abbrev S65536 : Shape := ⟨1, ![65536]⟩
abbrev S1024x100x1 : Shape := ⟨3, ![1024, 100, 1]⟩
abbrev S1x1x1 : Shape := ⟨3, ![1, 1, 1]⟩
abbrev S1x1x1000 : Shape := ⟨3, ![1, 1, 1000]⟩
abbrev S1024x100x1000 : Shape := ⟨3, ![1024, 100, 1000]⟩
abbrev S1024x1000 : Shape := ⟨2, ![1024, 1000]⟩

abbrev nBuf : Space → Nat
  | .hbm => 66
  | .vmem => 14
  | .smem => 2
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S64x1024x512, .f32⟩
  | .hbm, ⟨3, _⟩ => ⟨S64x1024, .i32⟩
  | .hbm, ⟨4, _⟩ => ⟨S1, .i32⟩
  | .hbm, ⟨5, _⟩ => ⟨S8x128, .i32⟩
  | .hbm, ⟨6, _⟩ => ⟨S64x8x128, .i32⟩
  | .hbm, ⟨7, _⟩ => ⟨S1024x65536, .f32⟩
  | .hbm, ⟨8, _⟩ => ⟨S64x1024x64, .f32⟩
  | .hbm, ⟨9, _⟩ => ⟨S64x1024x512, .f32⟩
  | .hbm, ⟨10, _⟩ => ⟨S64x8x128, .i32⟩
  | .hbm, ⟨11, _⟩ => ⟨S1, .i32⟩
  | .hbm, ⟨12, _⟩ => ⟨S1024x64x64, .f32⟩
  | .hbm, ⟨13, _⟩ => ⟨S1024x4096, .f32⟩
  | .hbm, ⟨14, _⟩ => ⟨S64x1024, .i32⟩
  | .hbm, ⟨15, _⟩ => ⟨S1024x100, .f32⟩
  | .hbm, ⟨16, _⟩ => ⟨S1024x100, .i32⟩
  | .hbm, ⟨17, _⟩ => ⟨S_, .f32⟩
  | .hbm, ⟨18, _⟩ => ⟨S1024x100, .f32⟩
  | .hbm, ⟨19, _⟩ => ⟨S1024x100, .f32⟩
  | .hbm, ⟨20, _⟩ => ⟨S1024x100, .f32⟩
  | .hbm, ⟨21, _⟩ => ⟨S65536, .i32⟩
  | .hbm, ⟨22, _⟩ => ⟨S_, .i32⟩
  | .hbm, ⟨23, _⟩ => ⟨S1024x100, .i32⟩
  | .hbm, ⟨24, _⟩ => ⟨S1024x100, .i1⟩
  | .hbm, ⟨25, _⟩ => ⟨S_, .i32⟩
  | .hbm, ⟨26, _⟩ => ⟨S1024x100, .i32⟩
  | .hbm, ⟨27, _⟩ => ⟨S1024x100, .i32⟩
  | .hbm, ⟨28, _⟩ => ⟨S1024x100, .i32⟩
  | .hbm, ⟨29, _⟩ => ⟨S1024x100x1, .i32⟩
  | .hbm, ⟨30, _⟩ => ⟨S1, .i32⟩
  | .hbm, ⟨31, _⟩ => ⟨S_, .i32⟩
  | .hbm, ⟨32, _⟩ => ⟨S1024x100x1, .i32⟩
  | .hbm, ⟨33, _⟩ => ⟨S1024x100x1, .i1⟩
  | .hbm, ⟨34, _⟩ => ⟨S1x1x1, .i32⟩
  | .hbm, ⟨35, _⟩ => ⟨S1024x100x1, .i32⟩
  | .hbm, ⟨36, _⟩ => ⟨S1024x100x1, .i1⟩
  | .hbm, ⟨37, _⟩ => ⟨S1024x100x1, .i1⟩
  | .hbm, ⟨38, _⟩ => ⟨S_, .i1⟩
  | .hbm, ⟨39, _⟩ => ⟨S1024x100, .i1⟩
  | .hbm, ⟨40, _⟩ => ⟨S1024x100, .i32⟩
  | .hbm, ⟨41, _⟩ => ⟨S_, .i32⟩
  | .hbm, ⟨42, _⟩ => ⟨S1024x100, .i32⟩
  | .hbm, ⟨43, _⟩ => ⟨S1024x100, .i32⟩
  | .hbm, ⟨44, _⟩ => ⟨S1024x100x1, .i32⟩
  | .hbm, ⟨45, _⟩ => ⟨S1x1x1000, .i32⟩
  | .hbm, ⟨46, _⟩ => ⟨S1024x100x1000, .i32⟩
  | .hbm, ⟨47, _⟩ => ⟨S1024x100x1000, .i32⟩
  | .hbm, ⟨48, _⟩ => ⟨S1024x100x1000, .i1⟩
  | .hbm, ⟨49, _⟩ => ⟨S1024x100x1000, .f32⟩
  | .hbm, ⟨50, _⟩ => ⟨S1024x100x1, .f32⟩
  | .hbm, ⟨51, _⟩ => ⟨S1024x100x1000, .f32⟩
  | .hbm, ⟨52, _⟩ => ⟨S1024x100x1000, .f32⟩
  | .hbm, ⟨53, _⟩ => ⟨S_, .f32⟩
  | .hbm, ⟨54, _⟩ => ⟨S1024x1000, .f32⟩
  | .hbm, ⟨55, _⟩ => ⟨S1024x1000, .i32⟩
  | .hbm, ⟨56, _⟩ => ⟨S_, .f32⟩
  | .hbm, ⟨57, _⟩ => ⟨S_, .i32⟩
  | .hbm, ⟨58, _⟩ => ⟨S1024, .f32⟩
  | .hbm, ⟨59, _⟩ => ⟨S1024, .i32⟩
  | .hbm, ⟨60, _⟩ => ⟨S1024, .i1⟩
  | .hbm, ⟨61, _⟩ => ⟨S1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1024x512, .f32⟩
  | .local _ .vmem, ⟨1, _⟩ => ⟨S8x128, .i32⟩
  | .local _ .vmem, ⟨2, _⟩ => ⟨S1x1024x512, .f32⟩
  | .local _ .vmem, ⟨3, _⟩ => ⟨S1x1024x512, .f32⟩
  | .local _ .vmem, ⟨4, _⟩ => ⟨S1x8x128, .i32⟩
  | .local _ .vmem, ⟨5, _⟩ => ⟨S1x8x128, .i32⟩
  | .local _ .vmem, ⟨6, _⟩ => ⟨S1024x1024, .f32⟩
  | .local _ .vmem, ⟨7, _⟩ => ⟨S1024x1024, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x512, .f32⟩
  | .local _ .vmem, ⟨11, _⟩ => ⟨S1x1024x512, .f32⟩
  | .local _ .vmem, ⟨12, _⟩ => ⟨S1x8x128, .i32⟩
  | .local _ .vmem, ⟨13, _⟩ => ⟨S1x8x128, .i32⟩
  | .local _ .smem, ⟨0, _⟩ => ⟨S1, .i32⟩
  | .local _ .smem, ⟨1, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_values : Ref sig .tc := ⟨.hbm, 15, rfl⟩
abbrev main_indices : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_c_4 : Ref sig .tc := ⟨.hbm, 41, rfl⟩
abbrev main_call0_v14 : Ref sig .tc := ⟨.hbm, 42, rfl⟩
abbrev main_v10 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_0 : Ref sig .tc := ⟨.hbm, 53, rfl⟩
abbrev main_v15 : Ref sig .tc := ⟨.hbm, 54, rfl⟩
abbrev main_call2_v0 : Ref sig .tc := ⟨.hbm, 55, rfl⟩
abbrev main_call2_cst : Ref sig .tc := ⟨.hbm, 56, rfl⟩
abbrev main_call2_c : Ref sig .tc := ⟨.hbm, 57, rfl⟩
abbrev main_call2_v1_0 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_1 : Ref sig .tc := ⟨.hbm, 62, rfl⟩
abbrev main_v19 : Ref sig .tc := ⟨.hbm, 63, rfl⟩
abbrev main_cst_2 : Ref sig .tc := ⟨.hbm, 64, rfl⟩
abbrev main_v20 : Ref sig .tc := ⟨.hbm, 65, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_stg9_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_22 : BitVec 32 := 0#32
  let v26 : BitVec 1 := Scalar.cmpi .ne v25 c0_i32_22
  v26

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1024x512 : Shape := ⟨2, ![1024, 512]⟩
abbrev S1024 : Shape := ⟨1, ![1024]⟩
abbrev S64x1024x512 : Shape := ⟨3, ![64, 1024, 512]⟩
abbrev S64x1024 : Shape := ⟨2, ![64, 1024]⟩
abbrev S1 : Shape := ⟨1, ![1]⟩
abbrev S1024x64x1024 : Shape := ⟨3, ![1024, 64, 1024]⟩
abbrev S1024x65536 : Shape := ⟨2, ![1024, 65536]⟩
abbrev S1024x100 : Shape := ⟨2, ![1024, 100]⟩
abbrev S_ : Shape := ⟨0, ![]⟩
abbrev S65536 : Shape := ⟨1, ![65536]⟩
abbrev S1024x100x1 : Shape := ⟨3, ![1024, 100, 1]⟩
abbrev S1x1x1 : Shape := ⟨3, ![1, 1, 1]⟩
abbrev S1x1x1000 : Shape := ⟨3, ![1, 1, 1000]⟩
abbrev S1024x100x1000 : Shape := ⟨3, ![1024, 100, 1000]⟩
abbrev S1024x1000 : Shape := ⟨2, ![1024, 1000]⟩

abbrev nBuf : Space → Nat
  | .hbm => 95
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S64x1024x512, .f32⟩
  | .hbm, ⟨3, _⟩ => ⟨S64x1024, .i32⟩
  | .hbm, ⟨4, _⟩ => ⟨S1, .i32⟩
  | .hbm, ⟨5, _⟩ => ⟨S1024x64x1024, .f32⟩
  | .hbm, ⟨6, _⟩ => ⟨S1024x65536, .f32⟩
  | .hbm, ⟨7, _⟩ => ⟨S1024x100, .f32⟩
  | .hbm, ⟨8, _⟩ => ⟨S1024x100, .i32⟩
  | .hbm, ⟨9, _⟩ => ⟨S_, .f32⟩
  | .hbm, ⟨10, _⟩ => ⟨S1024x100, .f32⟩
  | .hbm, ⟨11, _⟩ => ⟨S1024x100, .f32⟩
  | .hbm, ⟨12, _⟩ => ⟨S1024x100, .f32⟩
  | .hbm, ⟨13, _⟩ => ⟨S65536, .i32⟩
  | .hbm, ⟨14, _⟩ => ⟨S_, .i32⟩
  | .hbm, ⟨15, _⟩ => ⟨S1024x100, .i32⟩
  | .hbm, ⟨16, _⟩ => ⟨S1024x100, .i1⟩
  | .hbm, ⟨17, _⟩ => ⟨S_, .i32⟩
  | .hbm, ⟨18, _⟩ => ⟨S1024x100, .i32⟩
  | .hbm, ⟨19, _⟩ => ⟨S1024x100, .i32⟩
  | .hbm, ⟨20, _⟩ => ⟨S1024x100, .i32⟩
  | .hbm, ⟨21, _⟩ => ⟨S1024x100x1, .i32⟩
  | .hbm, ⟨22, _⟩ => ⟨S1, .i32⟩
  | .hbm, ⟨23, _⟩ => ⟨S_, .i32⟩
  | .hbm, ⟨24, _⟩ => ⟨S1024x100x1, .i32⟩
  | .hbm, ⟨25, _⟩ => ⟨S1024x100x1, .i1⟩
  | .hbm, ⟨26, _⟩ => ⟨S1x1x1, .i32⟩
  | .hbm, ⟨27, _⟩ => ⟨S1024x100x1, .i32⟩
  | .hbm, ⟨28, _⟩ => ⟨S1024x100x1, .i1⟩
  | .hbm, ⟨29, _⟩ => ⟨S1024x100x1, .i1⟩
  | .hbm, ⟨30, _⟩ => ⟨S_, .i1⟩
  | .hbm, ⟨31, _⟩ => ⟨S1024x100, .i1⟩
  | .hbm, ⟨32, _⟩ => ⟨S1024x100, .i32⟩
  | .hbm, ⟨33, _⟩ => ⟨S_, .i32⟩
  | .hbm, ⟨34, _⟩ => ⟨S1024x100, .i32⟩
  | .hbm, ⟨35, _⟩ => ⟨S1024x100, .i32⟩
  | .hbm, ⟨36, _⟩ => ⟨S1024x100x1, .i32⟩
  | .hbm, ⟨37, _⟩ => ⟨S1x1x1000, .i32⟩
  | .hbm, ⟨38, _⟩ => ⟨S1024x100x1000, .i32⟩
  | .hbm, ⟨39, _⟩ => ⟨S1024x100x1000, .i32⟩
  | .hbm, ⟨40, _⟩ => ⟨S1024x100x1000, .i1⟩
  | .hbm, ⟨41, _⟩ => ⟨S1024x100x1000, .f32⟩
  | .hbm, ⟨42, _⟩ => ⟨S1024x100x1, .f32⟩
  | .hbm, ⟨43, _⟩ => ⟨S1024x100x1000, .f32⟩
  | .hbm, ⟨44, _⟩ => ⟨S1024x100x1000, .f32⟩
  | .hbm, ⟨45, _⟩ => ⟨S_, .f32⟩
  | .hbm, ⟨46, _⟩ => ⟨S1024x1000, .f32⟩
  | .hbm, ⟨47, _⟩ => ⟨S1024x1000, .i32⟩
  | .hbm, ⟨48, _⟩ => ⟨S_, .f32⟩
  | .hbm, ⟨49, _⟩ => ⟨S_, .i32⟩
  | .hbm, ⟨50, _⟩ => ⟨S1024, .f32⟩
  | .hbm, ⟨51, _⟩ => ⟨S1024, .i32⟩
  | .hbm, ⟨52, _⟩ => ⟨S1024, .i1⟩
  | .hbm, ⟨53, _⟩ => ⟨S1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1, .i32⟩
  | .hbm, ⟨65, _⟩ => ⟨S64x1024x512, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1, .i32⟩
  | .hbm, ⟨72, _⟩ => ⟨S64x1024, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i1⟩
  | .hbm, ⟨88, _⟩ => ⟨S_, .i1⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1, .i32⟩
  | .hbm, ⟨94, _⟩ => ⟨S1, .i32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_c_4 : Ref sig .tc := ⟨.hbm, 33, rfl⟩
abbrev main_call0_v14 : Ref sig .tc := ⟨.hbm, 34, rfl⟩
abbrev main_v6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_0 : Ref sig .tc := ⟨.hbm, 45, rfl⟩
abbrev main_v11 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_1 : Ref sig .tc := ⟨.hbm, 54, rfl⟩
abbrev main_v15 : Ref sig .tc := ⟨.hbm, 55, rfl⟩
abbrev main_cst_2 : Ref sig .tc := ⟨.hbm, 56, rfl⟩
abbrev main_v16 : Ref sig .tc := ⟨.hbm, 57, rfl⟩
abbrev main_v17 : Ref sig .tc := ⟨.hbm, 58, rfl⟩
abbrev main_c : Ref sig .tc := ⟨.hbm, 59, rfl⟩
abbrev main_v18 : Ref sig .tc := ⟨.hbm, 60, rfl⟩
abbrev main_c_3 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_c_4 : Ref sig .tc := ⟨.hbm, 66, rfl⟩
abbrev main_v23 : Ref sig .tc := ⟨.hbm, 67, rfl⟩
abbrev main_c_5 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_6 : Ref sig .tc := ⟨.hbm, 73, rfl⟩
abbrev main_v28 : Ref sig .tc := ⟨.hbm, 74, rfl⟩
abbrev main_c_7 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_c_1 : Ref sig .tc := ⟨.hbm, 82, rfl⟩
abbrev main_call3_v4 : Ref sig .tc := ⟨.hbm, 83, rfl⟩
abbrev main_call3_c_2 : Ref sig .tc := ⟨.hbm, 84, rfl⟩
abbrev main_call3_v5 : Ref sig .tc := ⟨.hbm, 85, rfl⟩
abbrev main_call3_c_3 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_v29 : Ref sig .tc := ⟨.hbm, 91, rfl⟩
abbrev main_c_8 : Ref sig .tc := ⟨.hbm, 92, rfl⟩
abbrev main_v30 : Ref sig .tc := ⟨.hbm, 93, rfl⟩
abbrev main_v31 : Ref sig .tc := ⟨.hbm, 94, rfl⟩

abbrev nD : Nat := 1
abbrev τ : Topo := Topo.v7x

variable {F : FTy → Type} [FloatOps F]
-- ==== Proof.Body.lean ====
/-
  What one run of the kernel's body does to its staging buffers: the two cases of its one condition, the first grid
  point (where the next pointer is stored) and the others.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The one word an array of one word holds. -/
def theWord (x : Vec F S1 .i32) : BitVec 32 := x (Shape.Idx.first (s := S1) (by decide))

/-- An array of one word holds that word at every index. -/
theorem eq_theWord (x : Vec F S1 .i32) (y : S1.Idx) : x y = theWord x :=
  congrArg x (funext fun k => match k with | ⟨0, _⟩ => Subsingleton.elim (α := Fin 1) (y 0) _)

/-- The pointer the first grid point stores: the pointer plus one, reduced modulo 64 with the divisor's sign. -/
def nextPtr (p : BitVec 32) : BitVec 32 :=
  let b : BitVec 32 := Scalar.select (Scalar.cmpi .eq 64#32 0#32) 1#32 64#32
  let r : BitVec 32 := Scalar.remsi (Scalar.addi p 1#32) b
  Scalar.select (Scalar.andi (Scalar.xori (Scalar.cmpi .slt r 0#32) (Scalar.cmpi .slt b 0#32)) (Scalar.cmpi .ne r 0#32))
    (Scalar.addi r b) r

/-- The condition of the body's one `pl.when`: the grid point is the first. -/
abbrev isFirst (i : grid0.Coords) : Prop := k0_cond1 i = 1#1

/-- A load of a whole staging buffer that holds `x` reads `x`. -/
theorem load_all {sp : Space} {sh : Shape} {e : EltTy} {a : Memref sig .tc sp sh e} (h : a.IsWhole) (x : sh.Idx → Elt F e)
    {off : Fin sh.rank → ℕ} (inb : ∀ k, off k + sh.size k ≤ sh.size k) :
    a.view.readAt (Elt F) (Rect.unit off sh.size inb).toLoadRect (h.unread x) = x :=
  (View.readAt_full a.view _ inb).trans (h.read_unread x)

/-- A load of the one word of a buffer that holds `x` reads `x`'s one word, at whatever index it is asked. -/
theorem load_word {a : Memref sig .tc .smem S1 .i32} (h : a.IsWhole) (x : Vec F S1 .i32) {off : Fin S1.rank → ℕ}
    (inb : ∀ k, off k + S1.size k ≤ S1.size k) (y : S1.Idx) :
    a.view.readAt (Elt F) (Rect.unit off S1.size inb).toLoadRect (h.unread x) y = theWord x := by
  rw [load_all h x inb]
  exact eq_theWord x y

set_option maxHeartbeats 1000000 in
/-- The body at the first grid point, from whole staging buffers: the inputs' at `x0` … `x4`, the outputs' at anything. It
    ends with the inputs' as they were, the similarity block, the group maxima, the queue block and the label block at
    their payloads, and the pointer's buffer at the next pointer. -/
theorem body_first (c : Dev nD) (i : grid0.Coords) (arg1 : Memref sig .tc .smem S1 .i32) (harg1 : arg1.IsWhole) (arg2 : Memref sig .tc .vmem S1024x512 .f32) (harg2 : arg2.IsWhole)
    (arg3 : Memref sig .tc .vmem S8x128 .i32) (harg3 : arg3.IsWhole) (arg4 : Memref sig .tc .vmem S1x1024x512 .f32) (harg4 : arg4.IsWhole)
    (arg5 : Memref sig .tc .vmem S1x8x128 .i32) (harg5 : arg5.IsWhole) (arg6 : Memref sig .tc .vmem S1024x1024 .f32) (harg6 : arg6.IsWhole)
    (arg7 : Memref sig .tc .vmem S1x1024x64 .f32) (harg7 : arg7.IsWhole) (arg8 : Memref sig .tc .vmem S1x1024x512 .f32) (harg8 : arg8.IsWhole)
    (arg9 : Memref sig .tc .vmem S1x8x128 .i32) (harg9 : arg9.IsWhole) (arg10 : Memref sig .tc .smem S1 .i32) (harg10 : arg10.IsWhole)
    (hc : isFirst i) (x0 : Vec F S1 .i32) (x1 : Vec F S1024x512 .f32) (x2 : Vec F S8x128 .i32) (x3 : Vec F S1x1024x512 .f32)
    (x4 : Vec F S1x8x128 .i32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k0_pay2 x1 x3)
            ∗ owns (c : Thread nD τ) arg7 fullShare (k0_pay3 x1 x3)
            ∗ owns (c : Thread nD τ) arg8 fullShare (k0_pay4 i x1 x3 (theWord x0))
            ∗ owns (c : Thread nD τ) arg9 fullShare (k0_pay5 i (theWord x0) x2 x4)
            ∗ owns (c : Thread nD τ) arg10 fullShare (fun _ => nextPtr (theWord x0))) -∗ K ⟨⟩))
      ⊢ wp frame (wpE (defs₀ (F := F)) Variants.none c none) E
          (cc0__mm_body i arg1 harg1 arg2 harg2 arg3 harg3 arg4 harg4 arg5 harg5 arg6 harg6 arg7 harg7 arg8 harg8 arg9 harg9 arg10 harg10) K := by
  simp only [cc0__mm_body_eq_skeleton]; unfold cc0__mm_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩,
    ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [View.read_writes_full]
    exact congrArg₂ k0_pay2 (load_all harg2 x1 _) (load_all harg4 x3 _)
  isplitl [H6]
  · iexists _; isplitr; swap; · iexact H6
    ipureintro
    rw [View.read_writes_full]
    exact congrArg₂ k0_pay3 (load_all harg2 x1 _) (load_all harg4 x3 _)
  isplitl [H7]
  · iexists _; isplitr; swap; · iexact H7
    ipureintro
    rw [View.read_writes_full]
    exact congr (congrArg₂ (k0_pay4 i) (load_all harg2 x1 _) (load_all harg4 x3 _)) (load_word harg1 x0 _ _)
  isplitl [H8]
  · iexists _; isplitr; swap; · iexact H8
    ipureintro
    rw [View.read_writes_full]
    exact congr (congrArg₂ (k0_pay5 i) (load_word harg1 x0 _ _) (load_all harg3 x2 _)) (load_all harg5 x4 _)
  iexists _; isplitr; swap; · iexact H9
  ipureintro
  rw [View.read_writes_full]
  exact funext fun _ => congrArg nextPtr (load_word harg1 x0 _ _)

set_option maxHeartbeats 1000000 in
/-- The body at every other grid point: the same, but it does not touch the pointer's buffer, which ends as it was found,
    at `x9`. -/
theorem body_later (c : Dev nD) (i : grid0.Coords) (arg1 : Memref sig .tc .smem S1 .i32) (harg1 : arg1.IsWhole) (arg2 : Memref sig .tc .vmem S1024x512 .f32) (harg2 : arg2.IsWhole)
    (arg3 : Memref sig .tc .vmem S8x128 .i32) (harg3 : arg3.IsWhole) (arg4 : Memref sig .tc .vmem S1x1024x512 .f32) (harg4 : arg4.IsWhole)
    (arg5 : Memref sig .tc .vmem S1x8x128 .i32) (harg5 : arg5.IsWhole) (arg6 : Memref sig .tc .vmem S1024x1024 .f32) (harg6 : arg6.IsWhole)
    (arg7 : Memref sig .tc .vmem S1x1024x64 .f32) (harg7 : arg7.IsWhole) (arg8 : Memref sig .tc .vmem S1x1024x512 .f32) (harg8 : arg8.IsWhole)
    (arg9 : Memref sig .tc .vmem S1x8x128 .i32) (harg9 : arg9.IsWhole) (arg10 : Memref sig .tc .smem S1 .i32) (harg10 : arg10.IsWhole)
    (hc : ¬isFirst i) (x0 : Vec F S1 .i32) (x1 : Vec F S1024x512 .f32) (x2 : Vec F S8x128 .i32) (x3 : Vec F S1x1024x512 .f32)
    (x4 : Vec F S1x8x128 .i32) (x9 : Vec F S1 .i32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ owns (c : Thread nD τ) arg10 fullShare x9
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k0_pay2 x1 x3)
            ∗ owns (c : Thread nD τ) arg7 fullShare (k0_pay3 x1 x3)
            ∗ owns (c : Thread nD τ) arg8 fullShare (k0_pay4 i x1 x3 (theWord x0))
            ∗ owns (c : Thread nD τ) arg9 fullShare (k0_pay5 i (theWord x0) x2 x4)
            ∗ owns (c : Thread nD τ) arg10 fullShare x9) -∗ K ⟨⟩))
      ⊢ wp frame (wpE (defs₀ (F := F)) Variants.none c none) E
          (cc0__mm_body i arg1 harg1 arg2 harg2 arg3 harg3 arg4 harg4 arg5 harg5 arg6 harg6 arg7 harg7 arg8 harg8 arg9 harg9 arg10 harg10) K := by
  simp only [cc0__mm_body_eq_skeleton]; unfold cc0__mm_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩,
    ⟨%d6, %f6, -, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    rw [View.read_writes_full]
    exact congrArg₂ k0_pay2 (load_all harg2 x1 _) (load_all harg4 x3 _)
  isplitl [H6]
  · iexists _; isplitr; swap; · iexact H6
    ipureintro
    rw [View.read_writes_full]
    exact congrArg₂ k0_pay3 (load_all harg2 x1 _) (load_all harg4 x3 _)
  isplitl [H7]
  · iexists _; isplitr; swap; · iexact H7
    ipureintro
    rw [View.read_writes_full]
    exact congr (congrArg₂ (k0_pay4 i) (load_all harg2 x1 _) (load_all harg4 x3 _)) (load_word harg1 x0 _ _)
  isplitl [H8]
  · iexists _; isplitr; swap; · iexact H8
    ipureintro
    rw [View.read_writes_full]
    exact congr (congrArg₂ (k0_pay5 i) (load_word harg1 x0 _ _) (load_all harg3 x2 _)) (load_all harg5 x4 _)
  iexists _; isplitr; swap; · iexact H9
  ipureintro
  exact hf9

end Cert.KernelIdeal.Hand

end
-- ==== Proof.Region.lean ====
/-
  The kernel's one region: what each staging buffer holds before and after every grid point, the body's run at each of
  them, and the whole launch.
-/
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The queue pointer, as the region finds it. -/
def ptr (c : Dev nD) : BitVec 32 := theWord (F := F) (V m c main_arg4)

/-- The body's condition holds at the first grid point only. -/
theorem isFirst_iff (t : Fin cfg0.N) : isFirst (grid0.coords t) ↔ t.val = 0 := by
  have ht : t.val < 64 := Nat.lt_of_lt_of_eq t.isLt N_0
  have e0 : (grid0.coords t 0).val = t.val / 1 % 64 := Pipeline.Grid.coords_val t 0 (by decide) rfl
  simp only [isFirst, k0_cond1, e0]
  word_cmp

/-- What the staging buffers hold after the body at point `t`: the inputs' their blocks, the outputs' the body's
    payloads of those blocks; the pointer's the next pointer, at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 1 t) (iblk m c 3 t)
    | ⟨6, _⟩ => k0_pay3 (iblk m c 1 t) (iblk m c 3 t)
    | ⟨7, _⟩ => k0_pay4 (grid0.coords t) (iblk m c 1 t) (iblk m c 3 t) (ptr m c)
    | ⟨8, _⟩ => k0_pay5 (grid0.coords t) (ptr m c) (iblk m c 2 t) (iblk m c 4 t)
    | ⟨9, _⟩ => fun _ => nextPtr (ptr m c)
  Φ _ := Pipeline.ΦA spec0 c
  q _ := fullShare
  owed _ := 0

/-- The proof data's arrays are the arrays as the region finds them. -/
theorem A_eq (c : Dev nD) (w : Fin cfg0.W) : (dats m 0 c).A w = V m c (Pipeline.arrRef spec0 w) := by
  dsimp only [dats]

/-- Window 0 after the body at point `t`. -/
theorem after_0 (c : Dev nD) (t : Fin cfg0.N) : (dats m 0 c).after 0 t = iblk m c 0 t := by dsimp only [dats]
/-- Window 1 after the body at point `t`. -/
theorem after_1 (c : Dev nD) (t : Fin cfg0.N) : (dats m 0 c).after 1 t = iblk m c 1 t := by dsimp only [dats]
/-- Window 2 after the body at point `t`. -/
theorem after_2 (c : Dev nD) (t : Fin cfg0.N) : (dats m 0 c).after 2 t = iblk m c 2 t := by dsimp only [dats]
/-- Window 3 after the body at point `t`. -/
theorem after_3 (c : Dev nD) (t : Fin cfg0.N) : (dats m 0 c).after 3 t = iblk m c 3 t := by dsimp only [dats]
/-- Window 4 after the body at point `t`. -/
theorem after_4 (c : Dev nD) (t : Fin cfg0.N) : (dats m 0 c).after 4 t = iblk m c 4 t := by dsimp only [dats]
/-- Window 5 after the body at point `t`. -/
theorem after_5 (c : Dev nD) (t : Fin cfg0.N) : (dats m 0 c).after 5 t = k0_pay2 (iblk m c 1 t) (iblk m c 3 t) := by dsimp only [dats]
/-- Window 6 after the body at point `t`. -/
theorem after_6 (c : Dev nD) (t : Fin cfg0.N) : (dats m 0 c).after 6 t = k0_pay3 (iblk m c 1 t) (iblk m c 3 t) := by dsimp only [dats]
/-- Window 7 after the body at point `t`. -/
theorem after_7 (c : Dev nD) (t : Fin cfg0.N) : (dats m 0 c).after 7 t = k0_pay4 (grid0.coords t) (iblk m c 1 t) (iblk m c 3 t) (ptr m c) := by dsimp only [dats]
/-- Window 8 after the body at point `t`. -/
theorem after_8 (c : Dev nD) (t : Fin cfg0.N) : (dats m 0 c).after 8 t = k0_pay5 (grid0.coords t) (ptr m c) (iblk m c 2 t) (iblk m c 4 t) := by dsimp only [dats]
/-- Window 9 after the body at point `t`. -/
theorem after_9 (c : Dev nD) (t : Fin cfg0.N) : (dats m 0 c).after 9 t = fun _ => nextPtr (ptr m c) := by dsimp only [dats]

/-- Input window 0 holds its block at every point. -/
theorem before_0 (c : Dev nD) (t : Fin cfg0.N) (d) : (dats m 0 c).before 0 t d = iblk m c 0 t :=
  before0_0_of m (dats m 0 c) (A_eq m c 0) (after_0 m c) t d
/-- Input window 1 holds its block at every point. -/
theorem before_1 (c : Dev nD) (t : Fin cfg0.N) (d) : (dats m 0 c).before 1 t d = iblk m c 1 t :=
  before0_1_of m (dats m 0 c) (A_eq m c 1) (after_1 m c) t d
/-- Input window 2 holds its block at every point. -/
theorem before_2 (c : Dev nD) (t : Fin cfg0.N) (d) : (dats m 0 c).before 2 t d = iblk m c 2 t :=
  before0_2_of m (dats m 0 c) (A_eq m c 2) (after_2 m c) t d
/-- Input window 3 holds its block at every point. -/
theorem before_3 (c : Dev nD) (t : Fin cfg0.N) (d) : (dats m 0 c).before 3 t d = iblk m c 3 t :=
  before0_3_of m (dats m 0 c) (A_eq m c 3) (after_3 m c) t d
/-- Input window 4 holds its block at every point. -/
theorem before_4 (c : Dev nD) (t : Fin cfg0.N) (d) : (dats m 0 c).before 4 t d = iblk m c 4 t :=
  before0_4_of m (dats m 0 c) (A_eq m c 4) (after_4 m c) t d

/-- The pointer's block is the pointer, at every point. -/
theorem word_iblk (c : Dev nD) (t : Fin cfg0.N) : theWord (F := F) (iblk m c 0 t) = ptr m c := by
  refine Eq.trans ?_ (eq_theWord (F := F) (V m c main_arg4) ((((cfg0.win 0).blk t).view.emb (Shape.Idx.first (s := S1) (by decide)))))
  rfl

/-- Where the pointer's output window is idle: everywhere but at the first point. -/
theorem idle_9 (t : Fin cfg0.N) : cfg0.idle 9 (cfg0.grid.coords t) = !decide (t.val = 0) := by
  show (!(k0_cond1 (grid0.coords t) == 1#1)) = _
  rw [Bool.not_inj_iff, beq_eq_decide]
  exact decide_eq_decide.mpr (isFirst_iff t)

/-- The output pointer's buffer holds the next pointer at every point after the first: the first point stored it, and
    no later one stores, fetches or writes back before the last. -/
theorem before_9 (c : Dev nD) (d) : ∀ (n : ℕ) (t : Fin cfg0.N), t.val = n + 1 → (dats m 0 c).before 9 t d = fun _ => nextPtr (ptr m c)
  | n, t, ht => by
    have hN : t.val < 64 := Nat.lt_of_lt_of_eq t.isLt N_0
    have hfl : (cfg0.win 9).flush ⟨t.val - 1, Nat.lt_of_le_of_lt (Nat.sub_le _ _) t.isLt⟩ = false := by
      rw [Bool.eq_false_iff]; intro h
      have := (flush0_9 _).mp h
      simp only at this; omega
    rw [Dat.before_of_pos _ 9 t (by omega) rfl d, hfl, if_neg Bool.false_ne_true]
    unfold Dat.left
    rw [idle_9]
    cases n with
    | zero =>
      rw [show decide ((⟨t.val - 1, Nat.lt_of_le_of_lt (Nat.sub_le _ _) t.isLt⟩ : Fin cfg0.N).val = 0) = true from decide_eq_true (by simp only; omega)]
      exact after_9 m c _
    | succ n =>
      rw [show decide ((⟨t.val - 1, Nat.lt_of_le_of_lt (Nat.sub_le _ _) t.isLt⟩ : Fin cfg0.N).val = 0) = false from decide_eq_false (by simp only; omega)]
      exact before_9 c d n ⟨t.val - 1, Nat.lt_of_le_of_lt (Nat.sub_le _ _) t.isLt⟩ (by simp only; omega)

/-! ## The body at each point -/

/-- Window 0's current staging buffer at point `t`. -/
abbrev buf_0 (t : Fin cfg0.N) : Memref sig .tc .smem S1 .i32 := win0_0.stage (cfg0.slots t 0)
/-- Window 1's current staging buffer at point `t`. -/
abbrev buf_1 (t : Fin cfg0.N) : Memref sig .tc .vmem S1024x512 .f32 := win0_1.stage (cfg0.slots t 1)
/-- Window 2's current staging buffer at point `t`. -/
abbrev buf_2 (t : Fin cfg0.N) : Memref sig .tc .vmem S8x128 .i32 := win0_2.stage (cfg0.slots t 2)
/-- Window 3's current staging buffer at point `t`. -/
abbrev buf_3 (t : Fin cfg0.N) : Memref sig .tc .vmem S1x1024x512 .f32 := win0_3.stage (cfg0.slots t 3)
/-- Window 4's current staging buffer at point `t`. -/
abbrev buf_4 (t : Fin cfg0.N) : Memref sig .tc .vmem S1x8x128 .i32 := win0_4.stage (cfg0.slots t 4)
/-- Window 5's current staging buffer at point `t`. -/
abbrev buf_5 (t : Fin cfg0.N) : Memref sig .tc .vmem S1024x1024 .f32 := win0_5.stage (cfg0.slots t 5)
/-- Window 6's current staging buffer at point `t`. -/
abbrev buf_6 (t : Fin cfg0.N) : Memref sig .tc .vmem S1x1024x64 .f32 := win0_6.stage (cfg0.slots t 6)
/-- Window 7's current staging buffer at point `t`. -/
abbrev buf_7 (t : Fin cfg0.N) : Memref sig .tc .vmem S1x1024x512 .f32 := win0_7.stage (cfg0.slots t 7)
/-- Window 8's current staging buffer at point `t`. -/
abbrev buf_8 (t : Fin cfg0.N) : Memref sig .tc .vmem S1x8x128 .i32 := win0_8.stage (cfg0.slots t 8)
/-- Window 9's current staging buffer at point `t`. -/
abbrev buf_9 (t : Fin cfg0.N) : Memref sig .tc .smem S1 .i32 := win0_9.stage (cfg0.slots t 9)

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d))
    ∗ (∃ d, owns (c : Thread nD τ) (buf_7 t) fullShare ((dats m 0 c).before 7 t d))
    ∗ (∃ d, owns (c : Thread nD τ) (buf_8 t) fullShare ((dats m 0 c).before 8 t d))
    ∗ (∃ d, owns (c : Thread nD τ) (buf_9 t) fullShare ((dats m 0 c).before 9 t d)))

/-- What the body ends with at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- Window 0 is left at its block or payload. -/
theorem leaves_0 (c : Dev nD) (t : Fin cfg0.N) :
    (dats m 0 c).leavesExact 0 t = (owns (c : Thread nD τ) (buf_0 t) fullShare (iblk m c 0 t) : sProp 𝕄) := by
  rw [← after_0]
/-- Window 1 is left at its block or payload. -/
theorem leaves_1 (c : Dev nD) (t : Fin cfg0.N) :
    (dats m 0 c).leavesExact 1 t = (owns (c : Thread nD τ) (buf_1 t) fullShare (iblk m c 1 t) : sProp 𝕄) := by
  rw [← after_1]
/-- Window 2 is left at its block or payload. -/
theorem leaves_2 (c : Dev nD) (t : Fin cfg0.N) :
    (dats m 0 c).leavesExact 2 t = (owns (c : Thread nD τ) (buf_2 t) fullShare (iblk m c 2 t) : sProp 𝕄) := by
  rw [← after_2]
/-- Window 3 is left at its block or payload. -/
theorem leaves_3 (c : Dev nD) (t : Fin cfg0.N) :
    (dats m 0 c).leavesExact 3 t = (owns (c : Thread nD τ) (buf_3 t) fullShare (iblk m c 3 t) : sProp 𝕄) := by
  rw [← after_3]
/-- Window 4 is left at its block or payload. -/
theorem leaves_4 (c : Dev nD) (t : Fin cfg0.N) :
    (dats m 0 c).leavesExact 4 t = (owns (c : Thread nD τ) (buf_4 t) fullShare (iblk m c 4 t) : sProp 𝕄) := by
  rw [← after_4]
/-- Window 5 is left at its block or payload. -/
theorem leaves_5 (c : Dev nD) (t : Fin cfg0.N) :
    (dats m 0 c).leavesExact 5 t = (owns (c : Thread nD τ) (buf_5 t) fullShare (k0_pay2 (iblk m c 1 t) (iblk m c 3 t)) : sProp 𝕄) := by
  rw [← after_5]
/-- Window 6 is left at its block or payload. -/
theorem leaves_6 (c : Dev nD) (t : Fin cfg0.N) :
    (dats m 0 c).leavesExact 6 t = (owns (c : Thread nD τ) (buf_6 t) fullShare (k0_pay3 (iblk m c 1 t) (iblk m c 3 t)) : sProp 𝕄) := by
  rw [← after_6]
/-- Window 7 is left at its block or payload. -/
theorem leaves_7 (c : Dev nD) (t : Fin cfg0.N) :
    (dats m 0 c).leavesExact 7 t = (owns (c : Thread nD τ) (buf_7 t) fullShare (k0_pay4 (grid0.coords t) (iblk m c 1 t) (iblk m c 3 t) (ptr m c)) : sProp 𝕄) := by
  rw [← after_7]
/-- Window 8 is left at its block or payload. -/
theorem leaves_8 (c : Dev nD) (t : Fin cfg0.N) :
    (dats m 0 c).leavesExact 8 t = (owns (c : Thread nD τ) (buf_8 t) fullShare (k0_pay5 (grid0.coords t) (ptr m c) (iblk m c 2 t) (iblk m c 4 t)) : sProp 𝕄) := by
  rw [← after_8]
/-- Window 9 is left at the next pointer, at a point where the body stores it, -/
theorem leaves_9_first (c : Dev nD) (t : Fin cfg0.N) (h : t.val = 0) :
    (dats m 0 c).leavesExact 9 t = (owns (c : Thread nD τ) (buf_9 t) fullShare (fun _ => nextPtr (ptr m c)) : sProp 𝕄) := by
  unfold Dat.leavesExact
  rw [show cfg0.idle 9 (cfg0.grid.coords t) = false from (idle_9 t).trans (by rw [decide_eq_true h]; rfl), after_9]
  rfl

/-- and at every other one. -/
theorem leaves_9_later (c : Dev nD) (t : Fin cfg0.N) (h : t.val ≠ 0) :
    (owns (c : Thread nD τ) (buf_9 t) fullShare (fun _ => nextPtr (ptr m c)) : sProp 𝕄) ⊢ (dats m 0 c).leavesExact 9 t := by
  have hi : cfg0.idle 9 (cfg0.grid.coords t) = true := (idle_9 t).trans (by rw [decide_eq_false h]; rfl)
  cases hf : (cfg0.win 9).flush t
  · rw [Dat.leavesExact_idle _ 9 t hi hf]
    iintro H
    iexists (fun _ => 0#32)
    rw [before_9 m c _ (t.val - 1) t (by omega)]
    iexact H
  · unfold Dat.leavesExact
    rw [hi, hf, after_9]
    exact .rfl

set_option maxHeartbeats 1600000 in
/-- The body at any point, from what the point before left to what the next one finds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5, leaves_6, leaves_7, leaves_8]
  rw [show (dats m 0 c).Φ t.succ = (dats m 0 c).Φ t.castSucc from rfl,
    show (dats m 0 c).owesAt () t.succ = (dats m 0 c).owesAt () t.castSucc from rfl]
  by_cases h0 : t.val = 0
  · rw [leaves_9_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ ((isFirst_iff t).mpr h0) (iblk m c 0 t) (iblk m c 1 t) (iblk m c 2 t) (iblk m c 3 t) (iblk m c 4 t) Set.univ _)
    rw [word_iblk]
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hb : ∀ d, (dats m 0 c).before 9 t d = fun _ => nextPtr (ptr m c) := fun d => before_9 m c d (t.val - 1) t (by omega)
    simp only [hb]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ (fun h => h0 ((isFirst_iff t).mp h)) (iblk m c 0 t) (iblk m c 1 t) (iblk m c 2 t) (iblk m c 3 t) (iblk m c 4 t) (fun _ => nextPtr (ptr m c)) Set.univ _)
    rw [word_iblk]
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_9_later m c t h0); iexact H9

/-- The body table's row at a point is the body at that point. -/
theorem defs₀_row (t : Fin cfg0.N) : defs₀ (F := F) .tc cfg0.body (cfg0.bodyArgs t (cfg0.slots t)) = bodyAt0 t := by
  unfold defs₀; rw [Defs.onTc_tc]

/-- The body's obligation to the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- The whole program runs; at the end every array of the region holds what its write-backs left, every other array what
    the host lines after the region left, and every semaphore reads zero. -/
theorem run_quiescent : θ_run defs (onTc (τ := τ) (main (F := F))) (s₀ m ρ) (fun r =>
    (Pipeline.FramePost cfgs (dats m) 0 (Pipeline.afterTail₀ cfgs (dats m) 0 (V0 m) [hostOps1, hostOps1_1, hostOps1_2, hostOps1_3, hostOps1_4, hostOps1_5])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5])
    (hsub := sfx_sub) (hfresh := sfx_fresh) (hkeep := sfx_keeps)
    (hmain := hmain m Variants.none) (hA := A_eq m) (hΦ := fun _ _ => rfl)

/-- The same run without the semaphores. -/
theorem run : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5])) :=
  (θ_run defs _ _).mono (fun _ h => h.1) (run_quiescent m ρ)

/-- The program runs, its arguments end as they were, and every semaphore reads zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Hand

end
-- ==== Proof.Arrays.lean ====
/-
  What the arrays the region writes hold after it: the similarities block by block, the two queues with the pointer's
  entry replaced by the batch, and the next pointer.
-/
module

public import proofs.«01_k».proof.Proof.Region
public import Idealize.ShloMosaic.Lib.Pipeline.ValueKit
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem index_3 : ∀ t : Fin grid0.N, win0_3.index t = ![t.val, 0, 0] := by decide +kernel
theorem index_4 : ∀ t : Fin grid0.N, win0_4.index t = ![t.val, 0, 0] := by decide +kernel
theorem index_5 : ∀ t : Fin grid0.N, win0_5.index t = ![0, t.val] := by decide +kernel
theorem index_7 : ∀ t : Fin grid0.N, win0_7.index t = ![t.val, 0, 0] := by decide +kernel
theorem index_8 : ∀ t : Fin grid0.N, win0_8.index t = ![t.val, 0, 0] := by decide +kernel
theorem index_1 : ∀ t : Fin grid0.N, win0_1.index t = ![0, 0] := by decide +kernel
theorem index_2 : ∀ t : Fin grid0.N, win0_2.index t = ![0, 0] := by decide +kernel

/-- The features' block at every point is the whole array. -/
theorem iblk_1 (c : Dev nD) (t : Fin cfg0.N) : iblk m c 1 t = V m c main_arg0 := by
  funext y
  blk_simp [iblk]
  refine congrArg (V m c main_arg0) ?_
  blk_ext [index_1]

/-- The labels' block at every point is the whole array. -/
theorem iblk_2 (c : Dev nD) (t : Fin cfg0.N) : iblk m c 2 t = V m c main_v0 := by
  funext y
  blk_simp [iblk]
  refine congrArg (V m c main_v0) ?_
  blk_ext [index_2]

/-- The feature queue's block at point `t` is its member `t`. -/
theorem iblk_3 (c : Dev nD) (t : Fin cfg0.N) :
    iblk m c 3 t = fun z => V m c main_arg2 (ix3 ⟨t.val, Nat.lt_of_lt_of_eq t.isLt N_0⟩ (z 1) (z 2)) := by
  funext y
  have hy : (y 0 : Nat) < 1 := (y 0).isLt
  blk_simp [iblk]
  refine congrArg (V m c main_arg2) ?_
  blk_ext [index_3]

/-- The label queue's block at point `t` is its member `t`. -/
theorem iblk_4 (c : Dev nD) (t : Fin cfg0.N) :
    iblk m c 4 t = fun z => V m c main_v1 (ix3 ⟨t.val, Nat.lt_of_lt_of_eq t.isLt N_0⟩ (z 1) (z 2)) := by
  funext y
  have hy : (y 0 : Nat) < 1 := (y 0).isLt
  blk_simp [iblk]
  refine congrArg (V m c main_v1) ?_
  blk_ext [index_4]

/-- The similarities array: column `1024 k + n` of row `b` is entry `(b, n)` of the product of the features with the
    `k`-th member of the queue. -/
def simArr (x : Vec F S1024x512 .f32) (q : Vec F S64x1024x512 .f32) : Vec F S1024x65536 .f32 := fun i =>
  k0_pay2 x (fun y => q (ix3 ⟨(i 1).val / 1024, Nat.div_lt_of_lt_mul (i 1).isLt⟩ (y 1) (y 2)))
    (ix2 (i 0) ⟨(i 1).val % 1024, Nat.mod_lt _ (by decide)⟩)

/-- `simArr` at column `1024 k + n`. -/
theorem simArr_apply (x : Vec F S1024x512 .f32) (q : Vec F S64x1024x512 .f32) (i : S1024x65536.Idx) (k : Fin 64)
    (y : S1024x1024.Idx) (h0 : (i 0 : Nat) = y 0) (h1 : (i 1 : Nat) = k.val * 1024 + y 1) :
    simArr x q i = k0_pay2 x (fun z => q (ix3 k (z 1) (z 2))) y := by
  have hy : (y 1 : Nat) < 1024 := (y 1).isLt
  have ek : (⟨(i 1).val / 1024, Nat.div_lt_of_lt_mul (i 1).isLt⟩ : Fin 64) = k := Fin.ext (by simp only; omega)
  have ey : ix2 (i 0) ⟨(i 1).val % 1024, Nat.mod_lt _ (by decide)⟩ = y := by
    funext a
    match a with
    | ⟨0, _⟩ => exact Fin.ext h0
    | ⟨1, _⟩ => exact Fin.ext (show (i 1 : Nat) % 1024 = y 1 by omega)
  unfold simArr
  rw [ek]
  exact congrArg _ ey

/-- After the region the similarities array holds `simArr`. -/
theorem final_5 (c : Dev nD) : (dats m 0 c).arrAt 5 cfg0.N = simArr (V m c main_arg0) (V m c main_arg2) := by
  refine (dats m 0 c).arrAt_eq_of_covers 5 _ (by decide +kernel) fun t hf y => ?_
  blk_simp
  rw [after_5, iblk_1, iblk_3]
  refine (simArr_apply _ _ _ _ _ ?_ ?_).symm
  · blk_simp [index_5]
  · blk_simp [index_5]

/-- A choice by a word's equality is an `if`. -/
theorem select_eq {α : Type} (a b : BitVec 32) (x y : α) : Scalar.select (Scalar.cmpi .eq a b) x y = if a = b then x else y := by
  by_cases h : a = b
  · subst h; simp [Scalar.select, Scalar.cmpi, IntOp.cmpi]
  · have e : (a == b) = false := by simpa using h
    simp [Scalar.select, Scalar.cmpi, IntOp.cmpi, h, e]

/-- The grid's one coordinate is the point's number. -/
theorem coords_0 (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  omega

/-- The payload of the feature queue's block at coordinates: the features' entry at the pointer's point, the queue's
    entry at the others. -/
theorem pay4_apply (i : grid0.Coords) (x : Vec F S1024x512 .f32) (q : Vec F S1x1024x512 .f32) (p : BitVec 32)
    (y : S1x1024x512.Idx) :
    k0_pay4 i x q p y = if BitVec.ofNat 32 (i 0).val = p then x (ix2 (y 1) (y 2)) else q y := by
  unfold k0_pay4 k0_pay1
  pointwise
  exact select_eq _ _ _ _

/-- The payload of the label queue's block at coordinates: the batch's label at the pointer's point, the queue's label
    at the others. -/
theorem pay5_apply (i : grid0.Coords) (x : Vec F S8x128 .i32) (q : Vec F S1x8x128 .i32) (p : BitVec 32)
    (y : S1x8x128.Idx) :
    k0_pay5 i p x q y = if BitVec.ofNat 32 (i 0).val = p then x (ix2 (y 1) (y 2)) else q y := by
  unfold k0_pay5
  pointwise
  exact select_eq _ _ _ _

/-- A stack of 64 members with member number `p` replaced by `x`; a `p` that no member has the number of replaces none. -/
def putMember {a b : Nat} {e : EltTy} (x : (⟨2, ![a, b]⟩ : Shape).Idx → Elt F e) (q : (⟨3, ![64, a, b]⟩ : Shape).Idx → Elt F e)
    (p : BitVec 32) : (⟨3, ![64, a, b]⟩ : Shape).Idx → Elt F e := fun i =>
  if BitVec.ofNat 32 (i 0).val = p then x (ix2 (i 1) (i 2)) else q i

/-- After the region the feature queue holds the old one with the pointer's member replaced by the features. -/
theorem final_7 (c : Dev nD) :
    (dats m 0 c).arrAt 7 cfg0.N = putMember (F := F) (e := .f32) (V m c main_arg0) (V m c main_arg2) (ptr m c) := by
  refine (dats m 0 c).arrAt_eq_of_covers 7 _ (by decide +kernel) fun t hf y => ?_
  blk_simp
  rw [after_7, iblk_1, iblk_3, pay4_apply]
  rw [coords_0]
  have hy : (y 0 : Nat) < 1 := (y 0).isLt
  refine (congrArg (putMember (V m c main_arg0) (V m c main_arg2) (ptr m c))
    (show (win0_7.blk t).view.emb y = ix3 ⟨t.val, Nat.lt_of_lt_of_eq t.isLt N_0⟩ (y 1) (y 2) from ?_)).symm
  blk_ext [index_7]

/-- After the region the label queue, laid out in rows of 128, holds the old one with the pointer's member replaced by
    the batch's labels. -/
theorem final_8 (c : Dev nD) :
    (dats m 0 c).arrAt 8 cfg0.N = putMember (F := F) (e := .i32) (V m c main_v0) (V m c main_v1) (ptr m c) := by
  refine (dats m 0 c).arrAt_eq_of_covers 8 _ (by decide +kernel) fun t hf y => ?_
  blk_simp
  rw [after_8, iblk_2, iblk_4, pay5_apply]
  rw [coords_0]
  have hy : (y 0 : Nat) < 1 := (y 0).isLt
  refine (congrArg (putMember (V m c main_v0) (V m c main_v1) (ptr m c))
    (show (win0_8.blk t).view.emb y = ix3 ⟨t.val, Nat.lt_of_lt_of_eq t.isLt N_0⟩ (y 1) (y 2) from ?_)).symm
  blk_ext [index_8]

/-- After the region the pointer's output holds the next pointer. -/
theorem final_9 (c : Dev nD) : (dats m 0 c).arrAt 9 cfg0.N = fun _ => nextPtr (ptr m c) := by
  refine (dats m 0 c).arrAt_eq_of_covers 9 _ (by decide +kernel) fun t hf y => ?_
  blk_simp
  rw [after_9]

end Cert.KernelIdeal.Hand

end
-- ==== Proof.Accuracy.lean ====
/-
  The accuracy as both programs compute it from the similarities: the hundred nearest rows of the queue, their weights,
  their labels, the weighted vote over the classes, and the share of the batch whose winning class is its label.
-/
module

public import proofs.«01_k».proof.Proof.Gen.KernelIdeal

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The weights of the hundred largest similarities of each feature: the exponential of the similarity over the
    temperature. -/
def weights (sim : Vec F S1024x65536 .f32) : Vec F S1024x100 .f32 :=
  Host.exp (Host.divf (Host.topK S1024x100 1 (FloatOps.cmpfTotal .gt) sim sliceFits_S1024x65536_S1024x100).1
    (broadcastInDim S1024x100 ![] bcast_S_S1024x100 (constant S_ .f32 0x3D8F5C29#32)))

/-- The rows of the queue where they are found. -/
def nearest (sim : Vec F S1024x65536 .f32) : Vec F S1024x100 .i32 :=
  (Host.topK S1024x100 1 (FloatOps.cmpfTotal .gt) sim sliceFits_S1024x65536_S1024x100).2

/-- Row numbers as a lookup reads them: a negative one counts from the end. -/
def wrapped (idx : Vec F S1024x100 .i32) : Vec F S1024x100x1 .i32 :=
  broadcastInDim S1024x100x1 ![0, 1] bcast_S1024x100_S1024x100x1_0_1
    (select (cmpi .slt idx (broadcastInDim S1024x100 ![] bcast_S_S1024x100 (constantI S_ 32 0#32)))
      (addi idx (broadcastInDim S1024x100 ![] bcast_S_S1024x100 (constantI S_ 32 65536#32))) idx)

/-- Whether each of those is a row of the queue. -/
def inRange (w : Vec F S1024x100x1 .i32) : Vec F S1024x100 .i1 :=
  Host.reduce IntOp.andi
    (andi (cmpi .sge w (broadcastInDim S1024x100x1 ![] bcast_S_S1024x100x1 (constantI S_ 32 0#32)))
      (cmpi .sle w (broadcastInDim S1024x100x1 ![0, 1, 2] bcast_S1x1x1_S1024x100x1_0_1_2
        (broadcastInDim S1x1x1 ![2] bcast_S1_S1x1x1_2 (constantI S1 32 65535#32)))))
    (constantI S_ 1 1#1) reducesTo_S1024x100x1_S1024x100_d2 h_S_

/-- The labels of those rows; a row that is none gets the least word. -/
def taken (ql : Vec F S65536 .i32) (idx : Vec F S1024x100 .i32) : Vec F S1024x100 .i32 :=
  select (inRange (F := F) (wrapped (F := F) idx))
    (Host.gather gather_S65536_S1024x100x1_S1024x100_n_0_n_n_0_2_1 ql (wrapped (F := F) idx))
    (broadcastInDim S1024x100 ![] bcast_S_S1024x100 (constantI S_ 32 2147483648#32))

/-- One where a label is the class, zero elsewhere. -/
def oneHot (lab : Vec F S1024x100 .i32) : Vec F S1024x100x1000 .f32 :=
  uitofp .f32 (cmpi .eq
    (broadcastInDim S1024x100x1000 ![0, 1, 2] bcast_S1024x100x1_S1024x100x1000_0_1_2
      (broadcastInDim S1024x100x1 ![0, 1] bcast_S1024x100_S1024x100x1_0_1 lab))
    (broadcastInDim S1024x100x1000 ![0, 1, 2] bcast_S1x1x1000_S1024x100x1000_0_1_2 (iotaInDim S1x1x1000 32 2)))

/-- Each class's score: the sum of the weights of the rows whose label it is. -/
def scores (lab : Vec F S1024x100 .i32) (w : Vec F S1024x100 .f32) : Vec F S1024x1000 .f32 :=
  Host.reduceAdd
    (mulf (oneHot lab)
      (broadcastInDim S1024x100x1000 ![0, 1, 2] bcast_S1024x100x1_S1024x100x1000_0_1_2
        (broadcastInDim S1024x100x1 ![0, 1] bcast_S1024x100_S1024x100x1_0_1 w)))
    (constant S_ .f32 0x00000000#32) reducesTo_S1024x100x1000_S1024x1000_d1 h_S_

/-- The class with the largest score. -/
def winner (s : Vec F S1024x1000 .f32) : Vec F S1024 .i32 := fun j =>
  (Host.argReduce reducer_argmax_f32_i32 s (iotaInDim S1024x1000 32 1) (constant S_ .f32 0xFF800000#32) (constantI S_ 32 0#32)
    reducesTo_S1024x1000_S1024_d1 h_S_ j).2

/-- The share of the batch whose winner is its label. -/
def share (win labels : Vec F S1024 .i32) : Vec F S_ .f32 :=
  Host.divf
    (Host.reduceAdd (uitofp .f32 (cmpi .eq win labels)) (constant S_ .f32 0x00000000#32) reducesTo_S1024_S_d0 h_S_)
    (constant S_ .f32 0x44800000#32)

/-- The accuracy, of the similarities, the batch's labels and the queue's. -/
def accuracy (sim : Vec F S1024x65536 .f32) (labels : Vec F S1024 .i32) (ql : Vec F S64x1024 .i32) : Vec F S_ .f32 :=
  share (winner (scores (taken (F := F) (shapeCast S65536 ql shapeCasts_S64x1024_S65536) (nearest sim)) (weights sim))) labels

end Cert.KernelIdeal.Hand

end
-- ==== Proof.Run.lean ====
/-
  The kernel's run by what its four results hold at the end.
-/
module

public import proofs.«01_k».proof.Proof.Arrays
public import proofs.«01_k».proof.Proof.Accuracy
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The operations after the region. -/
abbrev tailOps : List (HloOp τ sig (Elt F)) :=
  List.flatten [hostOps1, hostOps1_1, hostOps1_2, hostOps1_3, hostOps1_4, hostOps1_5]

set_option maxHeartbeats 2000000 in
/-- After the operations that follow the region, the first result is the accuracy of the similarities array. -/
theorem tail_accuracy (W : Valuation τ sig (Elt F)) :
    StableHlo.after tailOps W (main_v20 : DevRef τ sig)
      = accuracy (F := F) (W (main_v2_0 : DevRef τ sig)) (W (main_arg1 : DevRef τ sig)) (W (main_arg3 : DevRef τ sig)) := by
  simp only [tailOps, hostOps1, hostOps1_1, hostOps1_2, hostOps1_3, hostOps1_4, hostOps1_5,
    List.flatten_cons, List.flatten_nil, List.append_nil, List.cons_append, List.nil_append]
  after_results
  simp only [StableHlo.TRef.ofBuf_toBuf]
  unfold accuracy share winner scores oneHot taken inRange wrapped nearest weights
  rfl

/-- After those, the third result is the label queue's array, laid out as the queue is. -/
theorem tail_labels (W : Valuation τ sig (Elt F)) :
    StableHlo.after tailOps W (main_v5 : DevRef τ sig)
      = shapeCast S64x1024 (W (main_v2_3 : DevRef τ sig)) shapeCasts_S64x8x128_S64x1024 := by
  simp only [tailOps, hostOps1, hostOps1_1, hostOps1_2, hostOps1_3, hostOps1_4, hostOps1_5,
    List.flatten_cons, List.flatten_nil, List.append_nil, List.cons_append, List.nil_append]
  after_results
  rfl

/-- The windows' arrays are distinct. -/
theorem arrRef_inj : Function.Injective (Pipeline.arrRef spec0) := by decide

/-- What the buffers hold when the operations after the region begin. -/
abbrev W0 (c : Dev nD) : Valuation τ sig (Elt F) := Pipeline.withArrays spec0 c (V0 m c) fun w => (dats m 0 c).arrAt w cfg0.N

theorem W0_main_v2_0 (c : Dev nD) :
    W0 m c (main_v2_0 : DevRef τ sig)
      = simArr (m ((c.tc : Thread nD τ).loc main_arg0)) (m ((c.tc : Thread nD τ).loc main_arg2)) := by
  refine (Pipeline.withArrays_arr spec0 arrRef_inj c (V0 m c) (fun w => (dats m 0 c).arrAt w cfg0.N) 5).trans ((final_5 m c).trans ?_)
  rw [V_main_arg0, V_main_arg2]

theorem W0_main_arg1 (c : Dev nD) : W0 m c (main_arg1 : DevRef τ sig) = m ((c.tc : Thread nD τ).loc main_arg1) :=
  (Pipeline.withArrays_of_ne spec0 c (V0 m c) (fun w => (dats m 0 c).arrAt w cfg0.N) main_arg1
    (by exact (by decide : ∀ w, Pipeline.arrRef spec0 w ≠ main_arg1))).trans (V_main_arg1 m c)

theorem W0_main_arg3 (c : Dev nD) : W0 m c (main_arg3 : DevRef τ sig) = m ((c.tc : Thread nD τ).loc main_arg3) :=
  (Pipeline.withArrays_of_ne spec0 c (V0 m c) (fun w => (dats m 0 c).arrAt w cfg0.N) main_arg3
    (by exact (by decide : ∀ w, Pipeline.arrRef spec0 w ≠ main_arg3))).trans (V_main_arg3 m c)

/-- The pointer, as launched. -/
theorem ptr_eq (c : Dev nD) : ptr m c = theWord (F := F) (m ((c.tc : Thread nD τ).loc main_arg4)) := by
  unfold ptr; rw [V_main_arg4]

/-- The region finds the batch's labels in rows of 128. -/
theorem V_main_v0 (c : Dev nD) :
    V m c main_v0 = shapeCast S8x128 (m ((c.tc : Thread nD τ).loc main_arg1)) shapeCasts_S1024_S8x128 := by
  show StableHlo.after (List.flatten [hostOps0]) (fun b => m (c, b)) (main_v0 : DevRef τ sig) = _
  simp only [hostOps0, List.flatten_cons, List.flatten_nil, List.append_nil, List.cons_append, List.nil_append]
  after_results
  rfl

/-- The region finds the queue's labels in rows of 128. -/
theorem V_main_v1 (c : Dev nD) :
    V m c main_v1 = shapeCast S64x8x128 (m ((c.tc : Thread nD τ).loc main_arg3)) shapeCasts_S64x1024_S64x8x128 := by
  show StableHlo.after (List.flatten [hostOps0]) (fun b => m (c, b)) (main_v1 : DevRef τ sig) = _
  simp only [hostOps0, List.flatten_cons, List.flatten_nil, List.append_nil, List.cons_append, List.nil_append]
  after_results
  rfl

theorem W0_main_v2_3 (c : Dev nD) :
    W0 m c (main_v2_3 : DevRef τ sig) = putMember (F := F) (e := .i32)
      (shapeCast S8x128 (m ((c.tc : Thread nD τ).loc main_arg1)) shapeCasts_S1024_S8x128)
      (shapeCast S64x8x128 (m ((c.tc : Thread nD τ).loc main_arg3)) shapeCasts_S64x1024_S64x8x128)
      (theWord (F := F) (m ((c.tc : Thread nD τ).loc main_arg4))) := by
  refine (Pipeline.withArrays_arr spec0 arrRef_inj c (V0 m c) (fun w => (dats m 0 c).arrAt w cfg0.N) 8).trans ((final_8 m c).trans ?_)
  rw [V_main_v0, V_main_v1, ptr_eq]

/-- The kernel program runs, and its four results end at the accuracy of the similarities, the feature queue and the
    label queue with the pointer's member replaced, and the next pointer; the arguments end as they were. -/
theorem run_results : θ_run defs (onTc (τ := τ) (main (F := F))) ⟨m, fun _ => 0, ρ⟩ (fun r => ∀ c : Dev nD,
      r.2.mem ((c.tc : Thread nD τ).loc main_v20)
        = accuracy (F := F) (simArr (m ((c.tc : Thread nD τ).loc main_arg0)) (m ((c.tc : Thread nD τ).loc main_arg2)))
          (m ((c.tc : Thread nD τ).loc main_arg1)) (m ((c.tc : Thread nD τ).loc main_arg3))
      ∧ r.2.mem ((c.tc : Thread nD τ).loc main_v2_2)
        = putMember (F := F) (e := .f32) (m ((c.tc : Thread nD τ).loc main_arg0)) (m ((c.tc : Thread nD τ).loc main_arg2))
          (theWord (F := F) (m ((c.tc : Thread nD τ).loc main_arg4)))
      ∧ r.2.mem ((c.tc : Thread nD τ).loc main_v5)
        = shapeCast S64x1024 (putMember (F := F) (e := .i32)
            (shapeCast S8x128 (m ((c.tc : Thread nD τ).loc main_arg1)) shapeCasts_S1024_S8x128)
            (shapeCast S64x8x128 (m ((c.tc : Thread nD τ).loc main_arg3)) shapeCasts_S64x1024_S64x8x128)
            (theWord (F := F) (m ((c.tc : Thread nD τ).loc main_arg4)))) shapeCasts_S64x8x128_S64x1024
      ∧ r.2.mem ((c.tc : Thread nD τ).loc main_v2_4)
        = (fun _ => nextPtr (theWord (F := F) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run m ρ
  · exact (tail_accuracy (W0 m c)).trans (by rw [W0_main_v2_0, W0_main_arg1, W0_main_arg3])
  · exact (final_7 m c).trans (by rw [V_main_arg0, V_main_arg2, ptr_eq])
  · exact (tail_labels (W0 m c)).trans (by rw [W0_main_v2_3])
  · exact (final_9 m c).trans (by rw [ptr_eq])
  · exact W_main_arg1 m (dats m) c
  · exact W_main_arg3 m (dats m) c

end Cert.KernelIdeal.Hand

end
-- ==== Proof.Reference.lean ====
/-
  The reference's run by what its four results hold at the end.
-/
module

public import proofs.«01_k».proof.Proof.Accuracy
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The similarities: the features against every row of the queue, the queue read as one list of rows. -/
def similarities (x : Vec F S1024x512 .f32) (q : Vec F S64x1024x512 .f32) : Vec F S1024x65536 .f32 :=
  shapeCast S1024x65536 (Host.dotGeneral dot_S1024x512_S64x1024x512_S1024x64x1024_1_2_0_01_n_n none x q)
    shapeCasts_S1024x64x1024_S1024x65536

/-- The pointer as a number on its own. -/
def word (p : Vec F S1 .i32) : Vec F S_ .i32 := shapeCast S_ p shapeCasts_S1_S_

/-- The pointer as an index: a negative one counts from the end. -/
def index (p : Vec F S1 .i32) : Vec F S1 .i32 :=
  broadcastInDim S1 ![] bcast_S_S1
    (select (cmpi .slt (word (F := F) p) (constantI S_ 32 0#32)) (addi (word (F := F) p) (constantI S_ 32 64#32)) (word (F := F) p))

/-- The feature queue with the pointer's member set to the features. -/
def newFeatures (x : Vec F S1024x512 .f32) (q : Vec F S64x1024x512 .f32) (p : Vec F S1 .i32) : Vec F S64x1024x512 .f32 :=
  Host.scatter scatter_S64x1024x512_S1_S1024x512_01_0_0_0 (fun _ b => b) q (index (F := F) p) x

/-- The label queue with the pointer's member set to the labels. -/
def newLabels (x : Vec F S1024 .i32) (q : Vec F S64x1024 .i32) (p : Vec F S1 .i32) : Vec F S64x1024 .i32 :=
  Host.scatter scatter_S64x1024_S1_S1024_0_0_0_0 (fun _ b => b) q (index (F := F) p) x

/-- What the remainder divides by: 64, or 1 if that were zero. -/
def modulus : IVec S_ 32 :=
  select (cmpi .eq (constantI S_ 32 64#32) (constantI S_ 32 0#32)) (constantI S_ 32 1#32) (constantI S_ 32 64#32)

/-- The remainder of a division that goes towards zero. -/
def rem (p : Vec F S1 .i32) : Vec F S_ .i32 := Host.remsi (addi (word (F := F) p) (constantI S_ 32 1#32)) modulus

/-- The pointer plus one modulo 64: that remainder, and 64 more where its sign is not the modulus's. -/
def next (p : Vec F S1 .i32) : Vec F S_ .i32 :=
  select
    (andi (cmpi .ne (cmpi .slt (rem (F := F) p) (constantI S_ 32 0#32)) (cmpi .slt modulus (constantI S_ 32 0#32)))
      (cmpi .ne (rem (F := F) p) (constantI S_ 32 0#32)))
    (addi (rem (F := F) p) modulus) (rem (F := F) p)

/-- The pointer's array with its one entry set to the next pointer. -/
def newPtr (p : Vec F S1 .i32) : Vec F S1 .i32 :=
  Host.scatter scatter_S1_S1_S__n_0_0_0 (fun _ b => b) p (broadcastInDim S1 ![] bcast_S_S1 (constantI S_ 32 0#32)) (next (F := F) p)

/-- The reference runs, its arguments end as they were, and every semaphore reads zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  hlo_run
  · exact fun _ => ⟨trivial, trivial, trivial, trivial, trivial⟩
  · exact sem_eq_zero_of_no_sems (by decide) _

set_option maxHeartbeats 2000000 in
/-- The reference runs, and its four results end at the accuracy of the similarities, the two queues with the pointer's
    member set, and the next pointer; the arguments end as they were. -/
theorem run_results : θ_run defs (onTc (τ := τ) (main (F := F))) ⟨m, fun _ => 0, ρ⟩ (fun r => ∀ c : Dev nD,
      r.2.mem ((c.tc : Thread nD τ).loc main_v16)
        = Cert.KernelIdeal.Hand.accuracy (F := F)
          (similarities (m ((c.tc : Thread nD τ).loc main_arg0)) (m ((c.tc : Thread nD τ).loc main_arg2)))
          (m ((c.tc : Thread nD τ).loc main_arg1)) (m ((c.tc : Thread nD τ).loc main_arg3))
      ∧ r.2.mem ((c.tc : Thread nD τ).loc main_v22)
        = newFeatures (F := F) (m ((c.tc : Thread nD τ).loc main_arg0)) (m ((c.tc : Thread nD τ).loc main_arg2))
          (m ((c.tc : Thread nD τ).loc main_arg4))
      ∧ r.2.mem ((c.tc : Thread nD τ).loc main_v27)
        = newLabels (F := F) (m ((c.tc : Thread nD τ).loc main_arg1)) (m ((c.tc : Thread nD τ).loc main_arg3))
          (m ((c.tc : Thread nD τ).loc main_arg4))
      ∧ r.2.mem ((c.tc : Thread nD τ).loc main_v31) = newPtr (F := F) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  · simp only [StableHlo.TRef.ofBuf_toBuf]
    unfold Cert.KernelIdeal.Hand.accuracy Cert.KernelIdeal.Hand.share Cert.KernelIdeal.Hand.winner Cert.KernelIdeal.Hand.scores
      Cert.KernelIdeal.Hand.oneHot Cert.KernelIdeal.Hand.taken Cert.KernelIdeal.Hand.inRange Cert.KernelIdeal.Hand.wrapped
      Cert.KernelIdeal.Hand.nearest Cert.KernelIdeal.Hand.weights similarities
    rfl
  · rfl
  · rfl
  · simp only [StableHlo.TRef.ofBuf_toBuf]
    unfold newPtr next rem modulus word
    rfl

end Cert.ReferenceIdeal.Hand

end
-- ==== Proof.Queues.lean ====
/-
  The two queues and the pointer: what the reference's scatters hold, entry by entry, is what the kernel writes.
-/
module

public import proofs.«01_k».proof.Proof.Arrays
public import proofs.«01_k».proof.Proof.Reference
public import Idealize.ShloMosaic.Lib.Routing.OpsPair
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Cert.KernelIdeal.Hand (theWord eq_theWord putMember nextPtr)

/-- The one entry of an array of one entry is the same wherever it is read. -/
theorem read_one {α : Type} (v : S1.Idx → α) (i j : S1.Idx) : v i = v j :=
  congrArg v (funext fun a => match a with | ⟨0, _⟩ => Subsingleton.elim (α := Fin 1) _ _)

/-- The update `j` of the feature queue's scatter lands at `i` exactly when the index is `i`'s member and the two other
    coordinates agree. -/
theorem lands_features (idx : IVec S1 32) (j : S1024x512.Idx) (i : S64x1024x512.Idx) (z : S1.Idx) :
    scatter_S64x1024x512_S1_S1024x512_01_0_0_0.resultIdx? j idx = some i
      ↔ (idx z).toInt = ((i 0).val : Int) ∧ (j 0).val = (i 1).val ∧ (j 1).val = (i 2).val := by
  rw [Routing.resultIdx?_eq_some]
  have h0 : scatter_S64x1024x512_S1_S1024x512_01_0_0_0.start j idx 0 = (idx z).toInt :=
    congrArg BitVec.toInt (read_one idx _ _)
  have h1 : scatter_S64x1024x512_S1_S1024x512_01_0_0_0.start j idx 1 = 0 := rfl
  have h2 : scatter_S64x1024x512_S1_S1024x512_01_0_0_0.start j idx 2 = 0 := rfl
  have w0 : scatter_S64x1024x512_S1_S1024x512_01_0_0_0.window j 0 = 0 := rfl
  have w1 : scatter_S64x1024x512_S1_S1024x512_01_0_0_0.window j 1 = (j 0).val := rfl
  have w2 : scatter_S64x1024x512_S1_S1024x512_01_0_0_0.window j 2 = (j 1).val := rfl
  constructor
  · intro h
    have a0 := h 0
    have a1 := h 1
    have a2 := h 2
    rw [h0, w0] at a0
    rw [h1, w1] at a1
    rw [h2, w2] at a2
    exact ⟨by omega, by omega, by omega⟩
  · rintro ⟨e0, e1, e2⟩
    have g0 : scatter_S64x1024x512_S1_S1024x512_01_0_0_0.start j idx 0 + ((scatter_S64x1024x512_S1_S1024x512_01_0_0_0.window j 0 : Nat) : Int) = ((i 0).val : Int) := by
      rw [h0, w0]; omega
    have g1 : scatter_S64x1024x512_S1_S1024x512_01_0_0_0.start j idx 1 + ((scatter_S64x1024x512_S1_S1024x512_01_0_0_0.window j 1 : Nat) : Int) = ((i 1).val : Int) := by
      rw [h1, w1]; omega
    have g2 : scatter_S64x1024x512_S1_S1024x512_01_0_0_0.start j idx 2 + ((scatter_S64x1024x512_S1_S1024x512_01_0_0_0.window j 2 : Nat) : Int) = ((i 2).val : Int) := by
      rw [h2, w2]; omega
    intro a
    match a with
    | ⟨0, _⟩ => exact g0
    | ⟨1, _⟩ => exact g1
    | ⟨2, _⟩ => exact g2

/-- The update `j` of the label queue's scatter lands at `i` exactly when the index is `i`'s member and the other
    coordinate agrees. -/
theorem lands_labels (idx : IVec S1 32) (j : S1024.Idx) (i : S64x1024.Idx) (z : S1.Idx) :
    scatter_S64x1024_S1_S1024_0_0_0_0.resultIdx? j idx = some i
      ↔ (idx z).toInt = ((i 0).val : Int) ∧ (j 0).val = (i 1).val := by
  rw [Routing.resultIdx?_eq_some]
  have h0 : scatter_S64x1024_S1_S1024_0_0_0_0.start j idx 0 = (idx z).toInt := congrArg BitVec.toInt (read_one idx _ _)
  have h1 : scatter_S64x1024_S1_S1024_0_0_0_0.start j idx 1 = 0 := rfl
  have w0 : scatter_S64x1024_S1_S1024_0_0_0_0.window j 0 = 0 := rfl
  have w1 : scatter_S64x1024_S1_S1024_0_0_0_0.window j 1 = (j 0).val := rfl
  constructor
  · intro h
    have a0 := h 0
    have a1 := h 1
    rw [h0, w0] at a0
    rw [h1, w1] at a1
    exact ⟨by omega, by omega⟩
  · rintro ⟨e0, e1⟩
    have g0 : scatter_S64x1024_S1_S1024_0_0_0_0.start j idx 0 + ((scatter_S64x1024_S1_S1024_0_0_0_0.window j 0 : Nat) : Int) = ((i 0).val : Int) := by
      rw [h0, w0]; omega
    have g1 : scatter_S64x1024_S1_S1024_0_0_0_0.start j idx 1 + ((scatter_S64x1024_S1_S1024_0_0_0_0.window j 1 : Nat) : Int) = ((i 1).val : Int) := by
      rw [h1, w1]; omega
    intro a
    match a with
    | ⟨0, _⟩ => exact g0
    | ⟨1, _⟩ => exact g1

/-- The one update of the pointer's scatter at index zero lands at the one entry. -/
theorem lands_ptr (idx : IVec S1 32) (h : ∀ z, (idx z).toInt = 0) (j : S_.Idx) (i : S1.Idx) :
    scatter_S1_S1_S__n_0_0_0.resultIdx? j idx = some i := by
  rw [Routing.resultIdx?_eq_some]
  have h0 : scatter_S1_S1_S__n_0_0_0.start j idx 0 = 0 := h _
  have w0 : scatter_S1_S1_S__n_0_0_0.window j 0 = 0 := rfl
  have hi : (i 0).val = 0 := by have := (i 0).isLt; change (i 0).val < 1 at this; omega
  have g0 : scatter_S1_S1_S__n_0_0_0.start j idx 0 + ((scatter_S1_S1_S__n_0_0_0.window j 0 : Nat) : Int) = ((i 0).val : Int) := by
    rw [h0, w0]; omega
  intro a
  match a with
  | ⟨0, _⟩ => exact g0

variable {F : FTy → Type} [FloatOps F]

/-- The number on its own is the array's one entry. -/
theorem word_apply (p : Vec F S1 .i32) (i : S_.Idx) : word (F := F) p i = theWord (F := F) p := eq_theWord (F := F) p _

/-- Where the pointer is not negative the index is the pointer. -/
theorem index_apply (p : Vec F S1 .i32) (h : 0 ≤ (theWord (F := F) p).toInt) (z : S1.Idx) :
    index (F := F) p z = theWord (F := F) p := by
  have hn : (theWord (F := F) p).toNat < 2 ^ 31 := by
    have := BitVec.toInt_eq_toNat_cond (theWord (F := F) p)
    omega
  show Scalar.select (IntOp.cmpi .slt (word (F := F) p _) 0#32) (word (F := F) p _ + 64#32) (word (F := F) p _) = _
  rw [word_apply]
  exact Routing.wrap_of_lt _ _ hn

/-- A member's number is the pointer's word exactly when the pointer read as a signed number is it. -/
theorem ofNat_eq_iff (p : BitVec 32) (k : Fin 64) : BitVec.ofNat 32 k.val = p ↔ p.toInt = (k.val : Int) := by
  have hk := k.isLt
  constructor
  · rintro rfl
    rw [BitVec.toInt_eq_toNat_cond, BitVec.toNat_ofNat]
    omega
  · intro h
    apply BitVec.eq_of_toInt_eq
    rw [h, BitVec.toInt_eq_toNat_cond, BitVec.toNat_ofNat]
    omega

/-- The feature queue: the scatter holds the kernel's array. -/
theorem newFeatures_eq (x : Vec F S1024x512 .f32) (q : Vec F S64x1024x512 .f32) (p : Vec F S1 .i32)
    (h : 0 ≤ (theWord (F := F) p).toInt) : newFeatures (F := F) x q p = putMember (F := F) (e := .f32) x q (theWord (F := F) p) := by
  funext i
  have hidx := index_apply p h
  have key := ofNat_eq_iff (theWord (F := F) p) (i 0)
  have z : S1.Idx := Shape.Idx.first (s := S1) (by decide)
  unfold newFeatures putMember
  split
  · next e =>
    refine Routing.scatter_set_hit _ _ _ _ i _ (fun j hj => ?_) (Idealize.ShloMosaic.ix2 (i 1) (i 2)) ?_
    · have hj' := (lands_features _ j i z).1 hj
      refine congrArg x (funext fun a => ?_)
      match a with
      | ⟨0, _⟩ => exact Fin.ext hj'.2.1
      | ⟨1, _⟩ => exact Fin.ext hj'.2.2
    · refine (lands_features _ _ i z).2 ⟨?_, rfl, rfl⟩
      rw [hidx]
      exact key.1 e
  · next e =>
    refine Routing.scatter_set_miss _ _ _ _ i (fun j hj => e (key.2 ?_))
    have hj' := (lands_features _ j i z).1 hj
    rw [hidx] at hj'
    exact hj'.1

/-- The label queue's scatter at an entry: the label of its column at the pointer's member, the queue's entry elsewhere. -/
theorem newLabels_apply (x : Vec F S1024 .i32) (q : Vec F S64x1024 .i32) (p : Vec F S1 .i32)
    (h : 0 ≤ (theWord (F := F) p).toInt) (i : S64x1024.Idx) :
    newLabels (F := F) x q p i = if BitVec.ofNat 32 (i 0).val = theWord (F := F) p then x (Idealize.ShloMosaic.ix1 (i 1)) else q i := by
  have hidx := index_apply p h
  have key := ofNat_eq_iff (theWord (F := F) p) (i 0)
  have z : S1.Idx := Shape.Idx.first (s := S1) (by decide)
  unfold newLabels
  split
  · next e =>
    refine Routing.scatter_set_hit _ _ _ _ i _ (fun j hj => ?_) (Idealize.ShloMosaic.ix1 (i 1)) ?_
    · have hj' := (lands_labels _ j i z).1 hj
      refine congrArg x (funext fun a => ?_)
      match a with
      | ⟨0, _⟩ => exact Fin.ext hj'.2
    · refine (lands_labels _ _ i z).2 ⟨?_, rfl⟩
      rw [hidx]
      exact key.1 e
  · next e =>
    refine Routing.scatter_set_miss _ _ _ _ i (fun j hj => e (key.2 ?_))
    have hj' := (lands_labels _ j i z).1 hj
    rw [hidx] at hj'
    exact hj'.1

/-- The label queue: the scatter holds the kernel's array, which the kernel keeps in rows of 128. -/
theorem newLabels_eq (x : Vec F S1024 .i32) (q : Vec F S64x1024 .i32) (p : Vec F S1 .i32) (h : 0 ≤ (theWord (F := F) p).toInt)
    (hx : S1024.ShapeCasts Cert.KernelIdeal.S8x128) (hq : S64x1024.ShapeCasts Cert.KernelIdeal.S64x8x128)
    (hr : Cert.KernelIdeal.S64x8x128.ShapeCasts S64x1024) :
    newLabels (F := F) x q p
      = shapeCast S64x1024 (putMember (F := F) (e := .i32) (shapeCast Cert.KernelIdeal.S8x128 x hx)
          (shapeCast Cert.KernelIdeal.S64x8x128 q hq) (theWord (F := F) p)) hr := by
  funext i
  have hi : (i 1).val < 1024 := (i 1).isLt
  let r : Fin 8 := ⟨(i 1).val / 128, by omega⟩
  let l : Fin 128 := ⟨(i 1).val % 128, by omega⟩
  have e3 : (Cert.KernelIdeal.S64x8x128.rowMajor (Idealize.ShloMosaic.ix3 (i 0) r l)).val = (S64x1024.rowMajor i).val := by
    rw [Shape.rowMajor_val_three, Shape.rowMajor_val_two]
    show ((i 0).val * 8 + (i 1).val / 128) * 128 + (i 1).val % 128 = (i 0).val * 1024 + (i 1).val
    omega
  have e2 : (S1024.rowMajor (Idealize.ShloMosaic.ix1 (i 1))).val = (Cert.KernelIdeal.S8x128.rowMajor (Idealize.ShloMosaic.ix2 r l)).val := by
    rw [Shape.rowMajor_val_one, Shape.rowMajor_val_two]
    show (i 1).val = (i 1).val / 128 * 128 + (i 1).val % 128
    omega
  rw [newLabels_apply x q p h i, shapeCast_apply _ hr i _ e3]
  unfold putMember
  exact congrArg₂ (fun (a b : BitVec 32) => if BitVec.ofNat 32 (i 0).val = theWord (F := F) p then a else b)
    (shapeCast_apply x hx _ _ e2).symm (shapeCast_apply q hq _ _ e3.symm).symm

/-- Two truth words differ exactly when their exclusive or is set. -/
theorem cmpi_ne_eq_xori : ∀ a b : BitVec 1, IntOp.cmpi .ne a b = IntOp.xori a b := by decide

/-- A remainder by 64 is the same on either unit: 64 is neither zero nor minus one. -/
theorem remsi_64 (u : ArithUnit) (x : BitVec 32) : IntOp.remsi u x 64#32 = x.srem 64#32 := by
  unfold IntOp.remsi IntOp.SDivCorner
  exact if_neg (by rintro (h | ⟨_, h⟩) <;> exact absurd h (by decide))

/-- The next pointer is the kernel's. -/
theorem next_apply (p : Vec F S1 .i32) (j : S_.Idx) : next (F := F) p j = nextPtr (theWord (F := F) p) := by
  have hm : modulus j = 64#32 := rfl
  have hb : Scalar.select (Scalar.cmpi .eq 64#32 0#32) 1#32 64#32 = 64#32 := rfl
  have hr : rem (F := F) p j = (theWord (F := F) p + 1#32).srem 64#32 := by
    show IntOp.remsi .host (word (F := F) p j + 1#32) (modulus j) = _
    rw [hm, word_apply, remsi_64]
  show Scalar.select (IntOp.cmpi .ne (IntOp.cmpi .slt (rem (F := F) p j) 0#32) (IntOp.cmpi .slt (modulus j) 0#32)
      &&& IntOp.cmpi .ne (rem (F := F) p j) 0#32) (rem (F := F) p j + modulus j) (rem (F := F) p j) = _
  rw [cmpi_ne_eq_xori, hr, hm, ← remsi_64 .scalar]
  rfl

/-- The pointer's array holds the kernel's next pointer. -/
theorem newPtr_eq (p : Vec F S1 .i32) : newPtr (F := F) p = fun _ => nextPtr (theWord (F := F) p) := by
  funext i
  unfold newPtr
  exact Routing.scatter_set_hit _ _ _ _ i _ (fun j _ => next_apply p j) (fun a => a.elim0) (lands_ptr _ (fun _ => rfl) _ i)

end Cert.ReferenceIdeal.Hand

end
-- ==== Proof.Similarities.lean ====
/-
  The similarities over the extended reals: the kernel's products of blocks are the columns of the reference's one product.
-/
module

public import proofs.«01_k».proof.Proof.Arrays
public import proofs.«01_k».proof.Proof.Reference
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Cert.KernelIdeal.Hand (simArr)

/-- The kernel's product of the features with one member's rows, at row `r` and column `n`: a sum of 512 products. -/
theorem block_apply (x : Vec Ideal S1024x512 .f32) (v : Vec Ideal Cert.KernelIdeal.S1x1024x512 .f32) (r n : Fin 1024) :
    Cert.KernelIdeal.Gen.k0_pay2 (F := Ideal) x v (Idealize.ShloMosaic.ix2 r n)
      = ∑ k : Fin 512, x (Idealize.ShloMosaic.ix2 r k) * v (Idealize.ShloMosaic.ix3 (0 : Fin 1) n k) := by
  unfold Cert.KernelIdeal.Gen.k0_pay2
  refine (Ideal.matmul_constant_zero_apply _ _ _ _ _).trans ?_
  refine (DotDims.sum_contr₁ _ (a := 1) rfl (K := 512) rfl _).trans (Finset.sum_congr rfl fun k _ => ?_)
  refine congrArg₂ (· * ·) (congrArg x (funext fun a => ?_)) ?_
  · match a with
    | ⟨0, _⟩ => rfl
    | ⟨1, _⟩ => rfl
  · unfold Cert.KernelIdeal.Gen.k0_pay1
    refine shapeCast_apply v _ _ _ ?_
    rw [Shape.rowMajor_val_three, Shape.rowMajor_val_two]
    show (0 * 1024 + n.val) * 512 + k.val = n.val * 512 + k.val
    omega

/-- The reference's product at row `r` and row `n` of member `g`: a sum of 512 products. -/
theorem product_apply (x : Vec Ideal S1024x512 .f32) (q : Vec Ideal S64x1024x512 .f32) (r : Fin 1024) (g : Fin 64) (n : Fin 1024) :
    Host.dotGeneral (F := Ideal) (φ₁ := .f32) (φ₂ := .f32) dot_S1024x512_S64x1024x512_S1024x64x1024_1_2_0_01_n_n none x q (Idealize.ShloMosaic.ix3 r g n)
      = ∑ k : Fin 512, x (Idealize.ShloMosaic.ix2 r k) * q (Idealize.ShloMosaic.ix3 g n k) := by
  unfold Host.dotGeneral
  refine (Ideal.dotGeneral_apply _ _ _ _ _ _).trans ?_
  refine (DotDims.sum_contr₁ _ (a := 1) rfl (K := 512) rfl _).trans (Finset.sum_congr rfl fun k _ => ?_)
  refine congrArg₂ (· * ·) (congrArg x (funext fun a => ?_)) (congrArg q (funext fun a => ?_))
  · match a with
    | ⟨0, _⟩ => rfl
    | ⟨1, _⟩ => rfl
  · match a with
    | ⟨0, _⟩ => rfl
    | ⟨1, _⟩ => rfl
    | ⟨2, _⟩ => rfl

/-- The kernel's similarities are the reference's. -/
theorem similarities_eq (x : Vec Ideal S1024x512 .f32) (q : Vec Ideal S64x1024x512 .f32) :
    similarities (F := Ideal) x q = simArr (F := Ideal) x q := by
  funext i
  have hi : (i 1).val < 65536 := (i 1).isLt
  let g : Fin 64 := ⟨(i 1).val / 1024, by omega⟩
  let n : Fin 1024 := ⟨(i 1).val % 1024, by omega⟩
  unfold similarities simArr
  refine (shapeCast_apply _ _ i (Idealize.ShloMosaic.ix3 (i 0) g n) (by
    rw [Shape.rowMajor_val_three, Shape.rowMajor_val_two]
    show ((i 0).val * 64 + (i 1).val / 1024) * 1024 + (i 1).val % 1024 = (i 0).val * 65536 + (i 1).val
    omega)).trans ?_
  exact (product_apply x q (i 0) g n).trans (block_apply x (fun y => q (Idealize.ShloMosaic.ix3 g (y 1) (y 2))) (i 0) n).symm

end Cert.ReferenceIdeal.Hand

end
-- ==== Proof.lean ====
/-
  The proof of the certificate's claims: the three frames, the idealization, and the equality of the kernel's four results
  with the reference's over the extended reals.
-/
module

public import proofs.«01_k».proof.Defs
public import proofs.«01_k».proof.Proof.Gen.Kernel
public import proofs.«01_k».proof.Proof.BitsRegion
public import proofs.«01_k».proof.Proof.Run
public import proofs.«01_k».proof.Proof.Queues
public import proofs.«01_k».proof.Proof.Similarities

@[expose] public section

set_option maxRecDepth 16384

noncomputable section

namespace Cert.Proof

open Idealize.ShloMosaic Idealize.ShloMosaic.TcCoe Idealize.ShloMosaic.Tactic Idealize.SL.Sem

/-- The side condition of the precondition's broadcast. -/
theorem facts_pre : Cert.Pre_ptr_not_negative.Facts := ⟨by decide⟩

attribute [local instance] facts_pre

/-- Under the precondition the pointer's word, read as a signed number, is at least zero. -/
theorem ptr_nonneg (m : (ℓ : Loc Cert.KernelIdeal.nD Cert.KernelIdeal.τ Cert.KernelIdeal.sig) → Buf (Elt Ideal) ℓ)
    (h : Cert.Pre_KernelIdeal_ptr_not_negative m) (c : Dev Cert.KernelIdeal.nD) :
    0 ≤ (Cert.KernelIdeal.Hand.theWord (F := Ideal) (m ((c.tc : Thread Cert.KernelIdeal.nD Cert.KernelIdeal.τ).loc Cert.KernelIdeal.main_arg4))).toInt := by
  have e := congrFun (h c) (Shape.Idx.first (s := Cert.KernelIdeal.S1) (by decide))
  change IntOp.cmpi .sge (Cert.KernelIdeal.Hand.theWord (F := Ideal) (m ((c.tc : Thread Cert.KernelIdeal.nD Cert.KernelIdeal.τ).loc Cert.KernelIdeal.main_arg4))) 0#32 = 1#1 at e
  generalize Cert.KernelIdeal.Hand.theWord (F := Ideal) (m ((c.tc : Thread Cert.KernelIdeal.nD Cert.KernelIdeal.τ).loc Cert.KernelIdeal.main_arg4)) = w at e ⊢
  by_contra hn
  have hf : (0#32).sle w = false := by
    rw [BitVec.sle, decide_eq_false_iff_not]
    simpa using hn
  unfold IntOp.cmpi at e
  simp only [hf] at e
  exact absurd e (by decide)

/-- Over the extended reals, where the pointer is not negative, the kernel's four results are the reference's. -/
theorem algebraic : Cert.algebraic_KernelIdeal_ReferenceIdeal_pre_ptr_not_negative
    (hKernelIdeal := Cert.KernelIdeal.Gen.facts) (hReferenceIdeal := Cert.ReferenceIdeal.Gen.facts) := by
  pair_intro
  · run_from Cert.KernelIdeal.Hand.run_results m g
  · refine (θ_run _ _ _).mono (fun r h c => ?_) (Cert.ReferenceIdeal.Hand.run_results m' g')
    obtain ⟨h0, h1, h2, h3, hargs⟩ := h c
    obtain ⟨a0, a1, a2, a3, a4⟩ := hagree c
    have hp := ptr_nonneg m hpre c
    rw [a0, a1, a2, a3, Cert.ReferenceIdeal.Hand.similarities_eq] at h0
    rw [a0, a2, a4, Cert.ReferenceIdeal.Hand.newFeatures_eq _ _ _ hp] at h1
    rw [a1, a3, a4, Cert.ReferenceIdeal.Hand.newLabels_eq _ _ _ hp Cert.KernelIdeal.Gen.facts.shapeCasts_S1024_S8x128
      Cert.KernelIdeal.Gen.facts.shapeCasts_S64x1024_S64x8x128 Cert.KernelIdeal.Gen.facts.shapeCasts_S64x8x128_S64x1024] at h2
    rw [a4, Cert.ReferenceIdeal.Hand.newPtr_eq] at h3
    exact ⟨h0, h1, h2, h3, hargs⟩

/-- Everything the certificate claims. -/
theorem claim : Cert.Claim := ⟨Cert.Kernel.Gen.facts, Cert.KernelIdeal.Gen.facts, Cert.ReferenceIdeal.Gen.facts, facts_pre,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  trivial,
  algebraic⟩

end Cert.Proof

end
